-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x524288x320 : Shape := ⟨3, ![2, 524288, 320]⟩
abbrev S_ : Shape := ⟨0, ![]⟩
abbrev S2x524288x352 : Shape := ⟨3, ![2, 524288, 352]⟩
abbrev S320x352 : Shape := ⟨2, ![320, 352]⟩
abbrev S2x320x524288 : Shape := ⟨3, ![2, 320, 524288]⟩
abbrev S2x352x524288 : Shape := ⟨3, ![2, 352, 524288]⟩
abbrev S1 : Shape := ⟨1, ![1]⟩
abbrev S1x320x8192 : Shape := ⟨3, ![1, 320, 8192]⟩
abbrev S1x352x8192 : Shape := ⟨3, ![1, 352, 8192]⟩
abbrev S320x8192 : Shape := ⟨2, ![320, 8192]⟩
abbrev S352x8192 : Shape := ⟨2, ![352, 8192]⟩
abbrev S1x320x352 : Shape := ⟨3, ![1, 320, 352]⟩
abbrev S1x1x1 : Shape := ⟨3, ![1, 1, 1]⟩

abbrev nBuf : Space → Nat
  | .hbm => 11
  | .vmem => 7
  | .smem => 3
  | _ => 0

abbrev bufTy : (tb : Table) → Fin (tcTables nBuf tb) → BufTy
  | .hbm, ⟨0, _⟩ => ⟨S2x524288x320, .fp8e4m3⟩
  | .hbm, ⟨1, _⟩ => ⟨S_, .f32⟩
  | .hbm, ⟨2, _⟩ => ⟨S2x524288x352, .fp8e5m2⟩
  | .hbm, ⟨3, _⟩ => ⟨S_, .f32⟩
  | .hbm, ⟨4, _⟩ => ⟨S320x352, .f32⟩
  | .hbm, ⟨5, _⟩ => ⟨S2x320x524288, .fp8e4m3⟩
  | .hbm, ⟨6, _⟩ => ⟨S2x352x524288, .fp8e5m2⟩
  | .hbm, ⟨7, _⟩ => ⟨S1, .f32⟩
  | .hbm, ⟨8, _⟩ => ⟨S1, .f32⟩
  | .hbm, ⟨9, _⟩ => ⟨S320x352, .f32⟩
  | .hbm, ⟨10, _⟩ => ⟨S1, .f32⟩
  | .local _ .vmem, ⟨0, _⟩ => ⟨S1x320x8192, .fp8e4m3⟩
  | .local _ .vmem, ⟨1, _⟩ => ⟨S1x320x8192, .fp8e4m3⟩
  | .local _ .vmem, ⟨2, _⟩ => ⟨S1x352x8192, .fp8e5m2⟩
  | .local _ .vmem, ⟨3, _⟩ => ⟨S1x352x8192, .fp8e5m2⟩
  | .local _ .vmem, ⟨4, _⟩ => ⟨S320x352, .f32⟩
  | .local _ .vmem, ⟨5, _⟩ => ⟨S320x352, .f32⟩
  | .local _ .vmem, ⟨6, _⟩ => ⟨S320x352, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2x524288x320, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_stg0_0 : Ref sig .tc := ⟨.smem, 0, rfl⟩
abbrev cc0_stg1_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v13 : BitVec 1 := Scalar.cmpi .eq arg0 c127_i32
  let v14 : BitVec 32 := Scalar.extui v13
  let c0_i32_10 : BitVec 32 := 0#32
  let v15 : BitVec 1 := Scalar.cmpi .ne v14 c0_i32_10
  v15

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 3 → Nat :=
  let arg0 : BitVec 32 := BitVec.ofNat 32 (i 0).val
  let c64_i32 : BitVec 32 := 64#32
  let v0 : BitVec 32 := Scalar.divsi arg0 c64_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c64_i32 c0_i32_1
  let v7 : BitVec 32 := Scalar.extui v6
  let c0_i32_2 : BitVec 32 := 0#32
  let v8 : BitVec 1 := Scalar.cmpi .slt c64_i32 c0_i32_2
  let v9 : BitVec 32 := Scalar.extui v8
  let v10 : BitVec 32 := Scalar.subi v7 v9
  let v11 : BitVec 1 := Scalar.cmpi .ne v5 v10
  let v12 : BitVec 32 := Scalar.remsi arg0 c64_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c64_i32_4 : BitVec 32 := 64#32
  let c0_i32_5 : BitVec 32 := 0#32
  let v17 : BitVec 1 := Scalar.cmpi .eq c64_i32_4 c0_i32_5
  let c1_i32_6 : BitVec 32 := 1#32
  let v18 : BitVec 32 := Scalar.select v17 c1_i32_6 c64_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x320x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x8192 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S320x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S320x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x524288x320 : Shape := ⟨3, ![2, 524288, 320]⟩
abbrev S_ : Shape := ⟨0, ![]⟩
abbrev S2x524288x352 : Shape := ⟨3, ![2, 524288, 352]⟩
abbrev S320x352 : Shape := ⟨2, ![320, 352]⟩
abbrev S1 : Shape := ⟨1, ![1]⟩
abbrev S1x320x352 : Shape := ⟨3, ![1, 320, 352]⟩
abbrev S1x1x1 : Shape := ⟨3, ![1, 1, 1]⟩

abbrev nBuf : Space → Nat
  | .hbm => 9
  | .vmem => 4
  | .smem => 3
  | _ => 0

abbrev bufTy : (tb : Table) → Fin (tcTables nBuf tb) → BufTy
  | .hbm, ⟨0, _⟩ => ⟨S2x524288x320, .fp8e4m3⟩
  | .hbm, ⟨1, _⟩ => ⟨S_, .f32⟩
  | .hbm, ⟨2, _⟩ => ⟨S2x524288x352, .fp8e5m2⟩
  | .hbm, ⟨3, _⟩ => ⟨S_, .f32⟩
  | .hbm, ⟨4, _⟩ => ⟨S320x352, .f32⟩
  | .hbm, ⟨5, _⟩ => ⟨S1, .f32⟩
  | .hbm, ⟨6, _⟩ => ⟨S1, .f32⟩
  | .hbm, ⟨7, _⟩ => ⟨S320x352, .f32⟩
  | .hbm, ⟨8, _⟩ => ⟨S1, .f32⟩
  | .local _ .vmem, ⟨0, _⟩ => ⟨S2x524288x320, .fp8e4m3⟩
  | .local _ .vmem, ⟨1, _⟩ => ⟨S2x524288x352, .fp8e5m2⟩
  | .local _ .vmem, ⟨2, _⟩ => ⟨S320x352, .f32⟩
  | .local _ .vmem, ⟨3, _⟩ => ⟨S320x352, .f32⟩
  | .local _ .smem, ⟨0, _⟩ => ⟨S1, .f32⟩
  | .local _ .smem, ⟨1, _⟩ => ⟨S1, .f32⟩
  | .local _ .smem, ⟨2, _⟩ => ⟨S1, .f32⟩
  | _, _ => ⟨S2x524288x320, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg2_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg1_0 : Ref sig .tc := ⟨.smem, 0, rfl⟩
abbrev cc0_stg3_0 : Ref sig .tc := ⟨.smem, 1, rfl⟩
abbrev cc0_stg6_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2x524288x320 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x524288x352 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S320x352 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S320x352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .smem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelBody.lean ====
module

public import proofs.«01_k».proof.Proof.Gen.KernelIdeal.Frame
public import Idealize.ShloMosaic.Lib.Pipeline.Value
public import Idealize.ShloMosaic.Lib.Tactic

@[expose] public section

noncomputable section

namespace Cert.KernelIdeal.Body

open Cert.KernelIdeal Cert.KernelIdeal.Gen Idealize.ShloMosaic Idealize.ShloMosaic.TcCoe Idealize.SL.Sem

variable {F : FTy → Type} [FloatOps F]

/-- The offsets of a whole rank-1 load or store. -/
theorem hz1 : (![0] : Fin 1 → Nat) = fun _ => 0 := funext fun a => by fin_cases a; rfl
/-- The offsets of a whole rank-2 load or store. -/
theorem hz2 : (![0, 0] : Fin 2 → Nat) = fun _ => 0 := funext fun a => by fin_cases a <;> rfl
/-- The offsets of a whole rank-3 load or store. -/
theorem hz3 : (![0, 0, 0] : Fin 3 → Nat) = fun _ => 0 := funext fun a => by fin_cases a <;> rfl

/-- The only index of a one-element vector. -/
def at0 : S1.Idx := Shape.Idx.first (by decide)

/-- Every index of a one-element vector is that one. -/
theorem eq_at0 (i : S1.Idx) : i = at0 := by
  funext a
  fin_cases a
  exact Subsingleton.elim (α := Fin 1) _ _

section
variable (c : Dev nD) (i : grid0.Coords)
  (a1 : Memref sig .tc .smem S1 .f32) (h1 : a1.IsWhole) (a2 : Memref sig .tc .smem S1 .f32) (h2 : a2.IsWhole)
  (a3 : Memref sig .tc .vmem S1x320x8192 .fp8e4m3) (h3 : a3.IsWhole)
  (a4 : Memref sig .tc .vmem S1x352x8192 .fp8e5m2) (h4 : a4.IsWhole)
  (a5 : Memref sig .tc .vmem S320x352 .f32) (h5 : a5.IsWhole) (a6 : Memref sig .tc .vmem S320x352 .f32) (h6 : a6.IsWhole)
  (a7 : Memref sig .tc .smem S1 .f32) (h7 : a7.IsWhole) (a8 : Memref sig .tc .vmem S320x352 .f32) (h8 : a8.IsWhole)
  (x0 x1 : Vec F S1 .f32) (x2 : Vec F S1x320x8192 .fp8e4m3) (x3 : Vec F S1x352x8192 .fp8e5m2) (x4 xs : Vec F S320x352 .f32)

/-- FIRST POINT: the accumulator is left at the zero block plus the product of the point's two code blocks. -/
theorem acc_A (hc0 : cond0_0 i) (hc1 : ¬cond0_1 i) :
    sout0_A_0 c i a1 h1 a2 h2 a3 h3 a4 h4 a5 h5 a6 h6 a7 h7 a8 h8 hc0 hc1 x0 x1 x2 x3 x4 = k0_pay2 k0_pay1 x2 x3 := by
  unfold sout0_A_0
  rw [View.read_writes_eq_canon _ _ _ (scover0_A_0 c i a1 h1 a2 h2 a3 h3 a4 h4 a5 h5 a6 h6 a7 h7 a8 h8 hc0 hc1 x0 x1 x2 x3 x4)]
  unfold kernelRun0_A
  dsimp only
  sl_unfold_words
  rw [View.canon_cons_unit_zero (S := S320x352) hz2, View.readCov_unit_zero (S := S320x352) _ hz2]
  simp only [View.readAt_eq_ld, h3.read_unread, h4.read_unread, View.ld_unit_zero (S := S1x320x8192) hz3,
    View.ld_unit_zero (S := S1x352x8192) hz3]

/-- MIDDLE POINTS: what the point before left plus the product of the point's two code blocks. -/
theorem acc_B (hc0 : ¬cond0_0 i) (hc1 : ¬cond0_1 i) :
    sout0_B_0 c i a1 h1 a2 h2 a3 h3 a4 h4 a5 h5 a6 h6 a7 h7 a8 h8 hc0 hc1 x0 x1 x2 x3 x4 xs = k0_pay2 xs x2 x3 := by
  unfold sout0_B_0
  rw [View.read_writes_eq_canon _ _ _ (scover0_B_0 c i a1 h1 a2 h2 a3 h3 a4 h4 a5 h5 a6 h6 a7 h7 a8 h8 hc0 hc1 x0 x1 x2 x3 x4 xs)]
  unfold kernelRun0_B
  dsimp only
  sl_unfold_words
  rw [View.canon_unit_zero hz2]
  simp only [View.readAt_eq_ld, h3.read_unread, h4.read_unread, h8.read_unread, View.ld_unit_zero (S := S1x320x8192) hz3,
    View.ld_unit_zero (S := S1x352x8192) hz3, View.ld_unit_zero (S := S320x352) hz2]

/-- LAST POINT, accumulator: what the point before left plus the product of the point's two code blocks. -/
theorem acc_C (hc0 : ¬cond0_0 i) (hc1 : cond0_1 i) :
    sout0_C_0 c i a1 h1 a2 h2 a3 h3 a4 h4 a5 h5 a6 h6 a7 h7 a8 h8 hc0 hc1 x0 x1 x2 x3 x4 xs = k0_pay2 xs x2 x3 := by
  unfold sout0_C_0
  rw [View.read_writes_eq_canon _ _ _ (scover0_C_0 c i a1 h1 a2 h2 a3 h3 a4 h4 a5 h5 a6 h6 a7 h7 a8 h8 hc0 hc1 x0 x1 x2 x3 x4 xs)]
  unfold kernelRun0_C
  dsimp only
  sl_unfold_words
  rw [View.canon_unit_zero hz2]
  simp only [View.readAt_eq_ld, h3.read_unread, h4.read_unread, h8.read_unread, View.ld_unit_zero (S := S1x320x8192) hz3,
    View.ld_unit_zero (S := S1x352x8192) hz3, View.ld_unit_zero (S := S320x352) hz2]

/-- LAST POINT, first result: the incoming gradient plus the scaled final accumulator. -/
theorem out_C (hc0 : ¬cond0_0 i) (hc1 : cond0_1 i) :
    out0_C_5 c i a1 h1 a2 h2 a3 h3 a4 h4 a5 h5 a6 h6 a7 h7 a8 h8 hc0 hc1 x0 x1 x2 x3 x4 xs
      = k0_pay4 (k0_pay2 xs x2 x3) (x0 at0) (x1 at0) x4 := by
  unfold out0_C_5
  rw [View.read_writes_eq_canon _ _ _ (cover0_C_5 c i a1 h1 a2 h2 a3 h3 a4 h4 a5 h5 a6 h6 a7 h7 a8 h8 hc0 hc1 x0 x1 x2 x3 x4 xs)]
  unfold kernelRun0_C
  dsimp only
  sl_unfold_words
  rw [View.canon_unit_zero hz2]
  simp only [View.readAt_eq_ld, h1.read_unread, h2.read_unread, h3.read_unread, h4.read_unread, h5.read_unread, h8.read_unread, View.ld_unit_zero (S := S1x320x8192) hz3,
    View.ld_unit_zero (S := S1x352x8192) hz3, View.ld_unit_zero (S := S320x352) hz2]
  rw [View.readCov_unit_zero (S := S320x352) _ hz2, View.ld_unit_zero (S := S1) hz1, View.ld_unit_zero (S := S1) hz1]
  rfl

/-- LAST POINT, second result: the largest absolute value of the scaled final accumulator. -/
theorem amax_C (hc0 : ¬cond0_0 i) (hc1 : cond0_1 i) :
    out0_C_6 c i a1 h1 a2 h2 a3 h3 a4 h4 a5 h5 a6 h6 a7 h7 a8 h8 hc0 hc1 x0 x1 x2 x3 x4 xs
      = fun _ => k0_pay5 (k0_pay2 xs x2 x3) (x0 at0) (x1 at0) := by
  unfold out0_C_6
  rw [View.read_writes_eq_canon _ _ _ (cover0_C_6 c i a1 h1 a2 h2 a3 h3 a4 h4 a5 h5 a6 h6 a7 h7 a8 h8 hc0 hc1 x0 x1 x2 x3 x4 xs)]
  unfold kernelRun0_C
  dsimp only
  sl_unfold_words
  rw [View.canon_unit_zero hz1]
  simp only [View.readAt_eq_ld, h1.read_unread, h2.read_unread, h3.read_unread, h4.read_unread, h5.read_unread, h8.read_unread, View.ld_unit_zero (S := S1x320x8192) hz3,
    View.ld_unit_zero (S := S1x352x8192) hz3, View.ld_unit_zero (S := S320x352) hz2]
  rw [View.readCov_unit_zero (S := S320x352) _ hz2, View.ld_unit_zero (S := S1) hz1, View.ld_unit_zero (S := S1) hz1]
  rfl

end

end Cert.KernelIdeal.Body

end
-- ==== Proof.KernelFold.lean ====
module

public import proofs.«01_k».proof.Proof.KernelBody

@[expose] public section

noncomputable section

namespace Cert.KernelIdeal.Fold

open Cert.KernelIdeal Cert.KernelIdeal.Gen Cert.KernelIdeal.Body Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- The accumulator after point `n`: the zero block, then at every point up to `n` the product of that point's two
    code blocks added to it. -/
def chain (c : Dev nD) : (n : ℕ) → n < cfg0.N → Vec F S320x352 .f32
  | 0, h => k0_pay2 k0_pay1 (iblk m c 2 ⟨0, h⟩) (iblk m c 3 ⟨0, h⟩)
  | n + 1, h => k0_pay2 (chain c n (Nat.lt_of_succ_lt h)) (iblk m c 2 ⟨n + 1, h⟩) (iblk m c 3 ⟨n + 1, h⟩)

/-- The scratch after point `n` is that chain, by induction on the point. -/
theorem scratch_eq (c : Dev nD) : ∀ (n : ℕ) (h : n < cfg0.N), (outsAt0 m c n h).2.2 = chain m c n h
  | 0, h => by
    rw [outsAt0_A m c ⟨0, h⟩ rfl (by dsimp only; omega)]
    dsimp only
    exact acc_A ..
  | n + 1, h => by
    have hN : cfg0.N = 128 := N_0
    have h0 : ¬(⟨n + 1, h⟩ : Fin cfg0.N).val % 128 = 0 := by dsimp only; omega
    by_cases h1 : (⟨n + 1, h⟩ : Fin cfg0.N).val % 128 = 127
    · rw [outsAt0_C m c ⟨n + 1, h⟩ h0 h1]
      dsimp only
      refine (acc_C ..).trans ?_
      show k0_pay2 (outsAt0 m c n _).2.2 _ _ = k0_pay2 (chain m c n _) _ _
      rw [scratch_eq c n]
    · rw [outsAt0_B m c ⟨n + 1, h⟩ h0 h1]
      dsimp only
      refine (acc_B ..).trans ?_
      show k0_pay2 (outsAt0 m c n _).2.2 _ _ = k0_pay2 (chain m c n _) _ _
      rw [scratch_eq c n]

/-- The grid's last point. -/
def last : Fin cfg0.N := ⟨127, by rw [show cfg0.N = 128 from N_0]; decide⟩

/-- The full accumulator: the chain after the last point. -/
def total (c : Dev nD) : Vec F S320x352 .f32 := chain m c 127 last.isLt

/-- First result: the incoming gradient plus the scaled accumulator. -/
abbrev result0 (c : Dev nD) : Buf (Elt F) ((c : Thread nD τ).loc main_v4_0) :=
  k0_pay4 (total m c) ((iblk m c 0 last : Vec F S1 .f32) at0) ((iblk m c 1 last : Vec F S1 .f32) at0) (iblk m c 4 last)

/-- Second result: the largest absolute value of the scaled accumulator. -/
abbrev result1 (c : Dev nD) : Buf (Elt F) ((c : Thread nD τ).loc main_v4_1) :=
  fun _ => k0_pay5 (total m c) ((iblk m c 0 last : Vec F S1 .f32) at0) ((iblk m c 1 last : Vec F S1 .f32) at0)

/-- What the last point leaves in the two output blocks: the two results. -/
theorem outs_last (c : Dev nD) : (outsAt0 m c last.val last.isLt).1 = result0 m c ∧ (outsAt0 m c last.val last.isLt).2.1 = result1 m c := by
  have h0 : ¬last.val % 128 = 0 := by decide
  have h1 : last.val % 128 = 127 := by decide
  rw [outsAt0_C m c last h0 h1]
  dsimp only
  constructor
  · refine (out_C ..).trans ?_
    exact congrArg (fun a => k0_pay4 (k0_pay2 a (iblk m c 2 last) (iblk m c 3 last)) ((iblk m c 0 last : Vec F S1 .f32) at0)
      ((iblk m c 1 last : Vec F S1 .f32) at0) (iblk m c 4 last)) (scratch_eq m c 126 _)
  · refine (amax_C ..).trans ?_
    exact congrArg (fun a => fun _ : S1.Idx => k0_pay5 (k0_pay2 a (iblk m c 2 last) (iblk m c 3 last))
      ((iblk m c 0 last : Vec F S1 .f32) at0) ((iblk m c 1 last : Vec F S1 .f32) at0)) (scratch_eq m c 126 _)

/-- The only point that writes an output block back is the last one. -/
theorem eq_last (t : Fin cfg0.N) (h : t.val % 128 = 127) : t = last := by
  have hN : cfg0.N = 128 := N_0
  have := t.isLt
  apply Fin.ext
  show t.val = 127
  omega

/-- What a point writes back to the first result's array is that result's block there. -/
theorem flushed5 (c : Dev nD) (t : Fin cfg0.N) (hf : (cfg0.win 5).flush t = true) :
    (dats m 0 c).flushed 5 t = ((cfg0.win 5).blk t).view.read (Elt F) (result0 m c) := by
  obtain rfl := eq_last t ((flush0_5 t).mp hf)
  show (cfg0.win 5).cut (grid0.coords last) ((dats m 0 c).after 5 last) = _
  rw [after0_5, (outs_last m c).1]
  have hz' : (fun a => win0_5.index last a * main_v4_0.ty.shape.size a) = fun _ => 0 := funext fun a => by fin_cases a <;> decide +kernel
  exact (Memref.read_access_unit_zero (Elt F) main_v4_0 hz' (fun a => by rw [congrFun hz' a]; simp) (result0 m c)).symm

/-- What a point writes back to the second result's array is that result's block there. -/
theorem flushed6 (c : Dev nD) (t : Fin cfg0.N) (hf : (cfg0.win 6).flush t = true) :
    (dats m 0 c).flushed 6 t = ((cfg0.win 6).blk t).view.read (Elt F) (result1 m c) := by
  obtain rfl := eq_last t ((flush0_6 t).mp hf)
  show (cfg0.win 6).cut (grid0.coords last) ((dats m 0 c).after 6 last) = _
  rw [after0_6, (outs_last m c).2]
  have hz' : (fun a => win0_6.index last a * main_v4_1.ty.shape.size a) = fun _ => 0 := funext fun a => by fin_cases a; decide +kernel
  exact (Memref.read_access_unit_zero (Elt F) main_v4_1 hz' (fun a => by rw [congrFun hz' a]; simp) (result1 m c)).symm

/-- So the first result's array ends holding the first result. -/
theorem final5 (c : Dev nD) : (dats m 0 c).arrAt 5 cfg0.N = result0 m c :=
  (dats m 0 c).arrAt_eq_of_cover 5 (result0 m c) (flushed5 m c) fun i =>
    ⟨last, (flush0_5 last).mpr rfl, by
      show i ∈ ((View.whole main_v4_0).slice (win0_5.rect last)).set
      rw [View.set_slice_whole, Rect.mem_set_unit]
      intro a
      have h0 : (i 0 : Nat) < 320 := (i 0).isLt
      have h1 : (i 1 : Nat) < 352 := (i 1).isLt
      match a with
      | ⟨0, _⟩ => show win0_5.index last 0 * win0_5.size 0 ≤ (i 0 : Nat) ∧ (i 0 : Nat) < win0_5.index last 0 * win0_5.size 0 + win0_5.xsize (grid0.coords last) 0
                  rw [show win0_5.index last 0 * win0_5.size 0 = 0 from by decide +kernel, show win0_5.xsize (grid0.coords last) 0 = 320 from by decide +kernel]; omega
      | ⟨1, _⟩ => show win0_5.index last 1 * win0_5.size 1 ≤ (i 1 : Nat) ∧ (i 1 : Nat) < win0_5.index last 1 * win0_5.size 1 + win0_5.xsize (grid0.coords last) 1
                  rw [show win0_5.index last 1 * win0_5.size 1 = 0 from by decide +kernel, show win0_5.xsize (grid0.coords last) 1 = 352 from by decide +kernel]; omega⟩

/-- So the second result's array ends holding the second result. -/
theorem final6 (c : Dev nD) : (dats m 0 c).arrAt 6 cfg0.N = result1 m c :=
  (dats m 0 c).arrAt_eq_of_cover 6 (result1 m c) (flushed6 m c) fun i =>
    ⟨last, (flush0_6 last).mpr rfl, by
      show i ∈ ((View.whole main_v4_1).slice (win0_6.rect last)).set
      rw [View.set_slice_whole, Rect.mem_set_unit]
      intro a
      have h0 : (i 0 : Nat) < 1 := (i 0).isLt
      match a with
      | ⟨0, _⟩ => show win0_6.index last 0 * win0_6.size 0 ≤ (i 0 : Nat) ∧ (i 0 : Nat) < win0_6.index last 0 * win0_6.size 0 + win0_6.xsize (grid0.coords last) 0
                  rw [show win0_6.index last 0 * win0_6.size 0 = 0 from by decide +kernel, show win0_6.xsize (grid0.coords last) 0 = 1 from by decide +kernel]; omega⟩

end Cert.KernelIdeal.Fold

end
-- ==== Proof.KernelInputs.lean ====
module

public import proofs.«01_k».proof.Proof.KernelFold
public import Idealize.ShloMosaic.Lib.Pointwise.Contract

@[expose] public section

noncomputable section

namespace Cert.KernelIdeal.Inputs

open Cert.KernelIdeal Cert.KernelIdeal.Gen Cert.KernelIdeal.Body Idealize.ShloMosaic Idealize.ShloMosaic.TcCoe Idealize.SL.Sem

variable {F : FTy → Type} [FloatOps F]
variable (m : (ℓ : Loc nD τ sig) → Buf (Elt F) ℓ)

/-- The first code array as the region finds it: the host's swap of its last two axes. -/
theorem V_v0 (c : Dev nD) : (V m c main_v0 : Vec F S2x320x524288 .fp8e4m3)
    = transpose S2x320x524288 [0, 2, 1] (m ((c : Thread nD τ).loc main_arg0)) transposes_S2x524288x320_S2x320x524288_0_2_1 := by
  unfold V hostOps0
  after_results

/-- The second code array as the region finds it: the host's swap of its last two axes. -/
theorem V_v1 (c : Dev nD) : (V m c main_v1 : Vec F S2x352x524288 .fp8e5m2)
    = transpose S2x352x524288 [0, 2, 1] (m ((c : Thread nD τ).loc main_arg2)) transposes_S2x524288x352_S2x352x524288_0_2_1 := by
  unfold V hostOps0
  after_results

/-- The first scale as the region finds it: the host's reshape of the scalar argument. -/
theorem V_v2 (c : Dev nD) : (V m c main_v2 : Vec F S1 .f32) = shapeCast S1 (m ((c : Thread nD τ).loc main_arg1)) shapeCasts_S_S1 := by
  unfold V hostOps0
  after_results
  rfl

/-- The second scale as the region finds it. -/
theorem V_v3 (c : Dev nD) : (V m c main_v3 : Vec F S1 .f32) = shapeCast S1 (m ((c : Thread nD τ).loc main_arg3)) shapeCasts_S_S1 := by
  unfold V hostOps0
  after_results
  rfl

/-- The first scale's block is the whole one-element array. -/
theorem iblk0 (c : Dev nD) (t : Fin cfg0.N) : (iblk m c 0 t : Vec F S1 .f32) = V m c main_v2 := by
  have hz' : (fun a => win0_0.index t a * main_v2.ty.shape.size a) = fun _ => 0 := funext fun a => by fin_cases a; exact Nat.zero_mul _
  exact Memref.read_access_unit_zero (Elt F) main_v2 hz' (fun a => by rw [congrFun hz' a]; simp) _

/-- The second scale's block is the whole one-element array. -/
theorem iblk1 (c : Dev nD) (t : Fin cfg0.N) : (iblk m c 1 t : Vec F S1 .f32) = V m c main_v3 := by
  have hz' : (fun a => win0_1.index t a * main_v3.ty.shape.size a) = fun _ => 0 := funext fun a => by fin_cases a; exact Nat.zero_mul _
  exact Memref.read_access_unit_zero (Elt F) main_v3 hz' (fun a => by rw [congrFun hz' a]; simp) _

/-- The incoming gradient's block is the whole array. -/
theorem iblk4 (c : Dev nD) (t : Fin cfg0.N) : (iblk m c 4 t : Vec F S320x352 .f32) = V m c main_arg4 := by
  have hz' : (fun a => win0_4.index t a * main_arg4.ty.shape.size a) = fun _ => 0 := funext fun a => by fin_cases a <;> exact Nat.zero_mul _
  exact Memref.read_access_unit_zero (Elt F) main_arg4 hz' (fun a => by rw [congrFun hz' a]; simp) _

/-- Which block of the first code array a point takes: 64 points walk each of the two leading slices. -/
theorem index2 : ∀ t : Fin cfg0.N, win0_2.index t 0 = t.val / 64 ∧ win0_2.index t 1 = 0 ∧ win0_2.index t 2 = t.val % 64 :=
  (by decide +kernel : ∀ t : Fin grid0.N, win0_2.index t 0 = t.val / 64 ∧ win0_2.index t 1 = 0 ∧ win0_2.index t 2 = t.val % 64)

/-- Which block of the second code array a point takes. -/
theorem index3 : ∀ t : Fin cfg0.N, win0_3.index t 0 = t.val / 64 ∧ win0_3.index t 1 = 0 ∧ win0_3.index t 2 = t.val % 64 :=
  (by decide +kernel : ∀ t : Fin grid0.N, win0_3.index t 0 = t.val / 64 ∧ win0_3.index t 1 = 0 ∧ win0_3.index t 2 = t.val % 64)

/-- A code element in the block of point `s`: row `i`, position `k` is the argument at slice `s / 64`, token
    `8192 * (s % 64) + k`, column `i`. -/
theorem iblk2_apply (c : Dev nD) (t : Fin cfg0.N) (i : Fin 320) (k : Fin 8192) (b : Fin 2) (T : Fin 524288)
    (hb : b.val = t.val / 64) (hT : T.val = 8192 * (t.val % 64) + k.val) :
    (iblk m c 2 t : Vec F S1x320x8192 .fp8e4m3) (ix3 0 i k) = m ((c : Thread nD τ).loc main_arg0) (ix3 b T i) := by
  obtain ⟨h0, h1, h2⟩ := index2 t
  unfold iblk
  rw [View.read_apply]
  show (V m c main_v0 : Vec F S2x320x524288 .fp8e4m3) _ = _
  rw [V_v0]
  refine transpose_apply _ _ _ _ _ fun a => ?_
  match a with
  | ⟨0, _⟩ => show b.val = win0_2.index t 0 * 1 + 1 * 0; rw [h0]; omega
  | ⟨1, _⟩ => show i.val = win0_2.index t 1 * 320 + 1 * i.val; rw [h1]; omega
  | ⟨2, _⟩ => show T.val = win0_2.index t 2 * 8192 + 1 * k.val; rw [h2]; omega

/-- The same for the second code array. -/
theorem iblk3_apply (c : Dev nD) (t : Fin cfg0.N) (i : Fin 352) (k : Fin 8192) (b : Fin 2) (T : Fin 524288)
    (hb : b.val = t.val / 64) (hT : T.val = 8192 * (t.val % 64) + k.val) :
    (iblk m c 3 t : Vec F S1x352x8192 .fp8e5m2) (ix3 0 i k) = m ((c : Thread nD τ).loc main_arg2) (ix3 b T i) := by
  obtain ⟨h0, h1, h2⟩ := index3 t
  unfold iblk
  rw [View.read_apply]
  show (V m c main_v1 : Vec F S2x352x524288 .fp8e5m2) _ = _
  rw [V_v1]
  refine transpose_apply _ _ _ _ _ fun a => ?_
  match a with
  | ⟨0, _⟩ => show b.val = win0_3.index t 0 * 1 + 1 * 0; rw [h0]; omega
  | ⟨1, _⟩ => show i.val = win0_3.index t 1 * 352 + 1 * i.val; rw [h1]; omega
  | ⟨2, _⟩ => show T.val = win0_3.index t 2 * 8192 + 1 * k.val; rw [h2]; omega

end Cert.KernelIdeal.Inputs

end
-- ==== Proof.RefValue.lean ====
module

public import proofs.«01_k».proof.Proof.Gen.ReferenceIdeal.Frame
public import Idealize.ShloMosaic.Lib.Pipeline.Value
public import Idealize.ShloMosaic.Lib.Tactic

@[expose] public section

noncomputable section

namespace Cert.ReferenceIdeal.RefValue

open Cert.ReferenceIdeal Cert.ReferenceIdeal.Gen Idealize.ShloMosaic Idealize.ShloMosaic.TcCoe Idealize.SL.Sem
open Idealize.ShloMosaic.Pipeline (Dat)

variable {F : FTy → Type} [FloatOps F]

/-- The offsets of a whole rank-1 load or store. -/
theorem hz1 : (![0] : Fin 1 → Nat) = fun _ => 0 := funext fun a => by fin_cases a; rfl
/-- The offsets of a whole rank-2 load or store. -/
theorem hz2 : (![0, 0] : Fin 2 → Nat) = fun _ => 0 := funext fun a => by fin_cases a <;> rfl
/-- The offsets of a whole rank-3 load or store. -/
theorem hz3 : (![0, 0, 0] : Fin 3 → Nat) = fun _ => 0 := funext fun a => by fin_cases a <;> rfl

/-- The only index of a one-element vector. -/
def at0 : S1.Idx := Shape.Idx.first (by decide)

section
variable (c : Dev nD)
  (a0 : Memref sig .tc .vmem S2x524288x320 .fp8e4m3) (h0 : a0.IsWhole) (a1 : Memref sig .tc .smem S1 .f32) (h1 : a1.IsWhole)
  (a2 : Memref sig .tc .vmem S2x524288x352 .fp8e5m2) (h2 : a2.IsWhole) (a3 : Memref sig .tc .smem S1 .f32) (h3 : a3.IsWhole)
  (a4 : Memref sig .tc .vmem S320x352 .f32) (h4 : a4.IsWhole) (a5 : Memref sig .tc .vmem S320x352 .f32) (h5 : a5.IsWhole)
  (a6 : Memref sig .tc .smem S1 .f32) (h6 : a6.IsWhole)
  (x0 : Vec F S2x524288x320 .fp8e4m3) (x1 : Vec F S1 .f32) (x2 : Vec F S2x524288x352 .fp8e5m2) (x3 : Vec F S1 .f32) (x4 : Vec F S320x352 .f32)

/-- The body's first result: the incoming gradient plus the scaled product of the two code arrays. -/
theorem out_A : out0_A_5 c a0 h0 a1 h1 a2 h2 a3 h3 a4 h4 a5 h5 a6 h6 x0 x1 x2 x3 x4 = k0_pay3 x0 x2 (x1 at0) (x3 at0) x4 := by
  unfold out0_A_5
  rw [View.read_writes_eq_canon _ _ _ (cover0_A_5 c a0 h0 a1 h1 a2 h2 a3 h3 a4 h4 a5 h5 a6 h6 x0 x1 x2 x3 x4)]
  unfold kernelRun0_A
  dsimp only
  sl_unfold_words
  rw [View.canon_unit_zero hz2]
  simp only [View.readAt_eq_ld, h0.read_unread, h1.read_unread, h2.read_unread, h3.read_unread, h4.read_unread,
    View.ld_unit_zero (S := S2x524288x320) hz3, View.ld_unit_zero (S := S2x524288x352) hz3, View.ld_unit_zero (S := S320x352) hz2]
  rw [View.ld_unit_zero (S := S1) hz1, View.ld_unit_zero (S := S1) hz1]
  rfl

/-- The body's second result: the largest absolute value of the scaled product. -/
theorem amax_A : out0_A_6 c a0 h0 a1 h1 a2 h2 a3 h3 a4 h4 a5 h5 a6 h6 x0 x1 x2 x3 x4 = fun _ => k0_pay2 x0 x2 (x1 at0) (x3 at0) := by
  unfold out0_A_6
  rw [View.read_writes_eq_canon _ _ _ (cover0_A_6 c a0 h0 a1 h1 a2 h2 a3 h3 a4 h4 a5 h5 a6 h6 x0 x1 x2 x3 x4)]
  unfold kernelRun0_A
  dsimp only
  sl_unfold_words
  rw [View.canon_unit_zero hz1]
  simp only [View.readAt_eq_ld, h0.read_unread, h1.read_unread, h2.read_unread, h3.read_unread, h4.read_unread,
    View.ld_unit_zero (S := S2x524288x320) hz3, View.ld_unit_zero (S := S2x524288x352) hz3, View.ld_unit_zero (S := S320x352) hz2]
  rw [View.ld_unit_zero (S := S1) hz1, View.ld_unit_zero (S := S1) hz1]
  rfl

end

variable (m : (ℓ : Loc nD τ sig) → Buf (Elt F) ℓ)

/-- The one grid point. -/
def pt : Fin cfg0.N := ⟨0, by decide⟩

/-- The first scale as the kernel body sees it: the host's reshape of the scalar argument. -/
theorem V_v0 (c : Dev nD) : (V m c main_v0 : Vec F S1 .f32) = shapeCast S1 (m ((c : Thread nD τ).loc main_arg1)) shapeCasts_S_S1 := by
  unfold V hostOps0
  after_results
  rfl

/-- The second scale as the kernel body sees it. -/
theorem V_v1 (c : Dev nD) : (V m c main_v1 : Vec F S1 .f32) = shapeCast S1 (m ((c : Thread nD τ).loc main_arg3)) shapeCasts_S_S1 := by
  unfold V hostOps0
  after_results
  rfl

/-- The first code array's block is the array. -/
theorem iblk0 (c : Dev nD) (t : Fin cfg0.N) : (iblk m c 0 t : Vec F S2x524288x320 .fp8e4m3) = V m c main_arg0 := by
  have hz' : (fun a => win0_0.index t a * main_arg0.ty.shape.size a) = fun _ => 0 := funext fun a => Nat.zero_mul _
  exact Memref.read_access_unit_zero (Elt F) main_arg0 hz' (fun a => by rw [congrFun hz' a]; simp) _

/-- The first scale's block is the reshaped scalar. -/
theorem iblk1 (c : Dev nD) (t : Fin cfg0.N) : (iblk m c 1 t : Vec F S1 .f32) = V m c main_v0 := by
  have hz' : (fun a => win0_1.index t a * main_v0.ty.shape.size a) = fun _ => 0 := funext fun a => Nat.zero_mul _
  exact Memref.read_access_unit_zero (Elt F) main_v0 hz' (fun a => by rw [congrFun hz' a]; simp) _

/-- The second code array's block is the array. -/
theorem iblk2 (c : Dev nD) (t : Fin cfg0.N) : (iblk m c 2 t : Vec F S2x524288x352 .fp8e5m2) = V m c main_arg2 := by
  have hz' : (fun a => win0_2.index t a * main_arg2.ty.shape.size a) = fun _ => 0 := funext fun a => Nat.zero_mul _
  exact Memref.read_access_unit_zero (Elt F) main_arg2 hz' (fun a => by rw [congrFun hz' a]; simp) _

/-- The second scale's block is the reshaped scalar. -/
theorem iblk3 (c : Dev nD) (t : Fin cfg0.N) : (iblk m c 3 t : Vec F S1 .f32) = V m c main_v1 := by
  have hz' : (fun a => win0_3.index t a * main_v1.ty.shape.size a) = fun _ => 0 := funext fun a => Nat.zero_mul _
  exact Memref.read_access_unit_zero (Elt F) main_v1 hz' (fun a => by rw [congrFun hz' a]; simp) _

/-- The incoming gradient's block is the array. -/
theorem iblk4 (c : Dev nD) (t : Fin cfg0.N) : (iblk m c 4 t : Vec F S320x352 .f32) = V m c main_arg4 := by
  have hz' : (fun a => win0_4.index t a * main_arg4.ty.shape.size a) = fun _ => 0 := funext fun a => Nat.zero_mul _
  exact Memref.read_access_unit_zero (Elt F) main_arg4 hz' (fun a => by rw [congrFun hz' a]; simp) _

/-- The first result as one function of the arguments. -/
def result0 (c : Dev nD) : Buf (Elt F) ((c : Thread nD τ).loc main_v2_0) :=
  k0_pay3 (m ((c : Thread nD τ).loc main_arg0)) (m ((c : Thread nD τ).loc main_arg2))
    (shapeCast S1 (m ((c : Thread nD τ).loc main_arg1)) shapeCasts_S_S1 at0)
    (shapeCast S1 (m ((c : Thread nD τ).loc main_arg3)) shapeCasts_S_S1 at0) (m ((c : Thread nD τ).loc main_arg4))

/-- The second result as one function of the arguments. -/
def result1 (c : Dev nD) : Buf (Elt F) ((c : Thread nD τ).loc main_v2_1) :=
  fun _ => k0_pay2 (m ((c : Thread nD τ).loc main_arg0)) (m ((c : Thread nD τ).loc main_arg2))
    (shapeCast S1 (m ((c : Thread nD τ).loc main_arg1)) shapeCasts_S_S1 at0)
    (shapeCast S1 (m ((c : Thread nD τ).loc main_arg3)) shapeCasts_S_S1 at0)

/-- What the body leaves in the first output block: the first result. -/
theorem outs_eq0 (c : Dev nD) (t : Fin cfg0.N) : (outsAt0 m c t).1 = result0 m c := by
  unfold outsAt0
  dsimp only
  rw [out_A, iblk0, iblk1, iblk2, iblk3, iblk4, V_v0, V_v1, V_main_arg0, V_main_arg2, V_main_arg4]
  rfl

/-- What the body leaves in the second output block: the second result. -/
theorem outs_eq1 (c : Dev nD) (t : Fin cfg0.N) : (outsAt0 m c t).2 = result1 m c := by
  unfold outsAt0
  dsimp only
  rw [amax_A, iblk0, iblk1, iblk2, iblk3, V_v0, V_v1, V_main_arg0, V_main_arg2]
  rfl

/-- What the one point writes back to the first result's array is that result's block there. -/
theorem flushed5 (c : Dev nD) (t : Fin cfg0.N) :
    (dats m 0 c).flushed 5 t = ((cfg0.win 5).blk t).view.read (Elt F) (result0 m c) := by
  show (cfg0.win 5).cut (grid0.coords t) ((dats m 0 c).after 5 t) = _
  rw [after0_5, outs_eq0]
  generalize result0 m c = r
  have hz' : (fun a => win0_5.index t a * main_v2_0.ty.shape.size a) = fun _ => 0 := funext fun a => Nat.zero_mul _
  exact (Memref.read_access_unit_zero (Elt F) main_v2_0 hz' (fun a => by rw [congrFun hz' a]; simp) r).symm

/-- So the first result's array ends holding the first result. -/
theorem final5 (c : Dev nD) : (dats m 0 c).arrAt 5 cfg0.N = result0 m c :=
  (dats m 0 c).arrAt_eq_of_cover 5 (result0 m c) (fun t _ => flushed5 m c t) fun i =>
    ⟨pt, by decide +kernel, by
      show i ∈ ((View.whole main_v2_0).slice (win0_5.rect pt)).set
      rw [View.set_slice_whole, Rect.mem_set_unit]
      intro a
      have h : (i a : Nat) < main_v2_0.ty.shape.size a := (i a).isLt
      show 0 * _ ≤ (i a : Nat) ∧ (i a : Nat) < 0 * _ + main_v2_0.ty.shape.size a
      rw [Nat.zero_mul, Nat.zero_add]
      exact ⟨Nat.zero_le _, h⟩⟩

/-- What the one point writes back to the second result's array is that result's block there. -/
theorem flushed6 (c : Dev nD) (t : Fin cfg0.N) :
    (dats m 0 c).flushed 6 t = ((cfg0.win 6).blk t).view.read (Elt F) (result1 m c) := by
  show (cfg0.win 6).cut (grid0.coords t) ((dats m 0 c).after 6 t) = _
  rw [after0_6, outs_eq1]
  generalize result1 m c = r
  have hz' : (fun a => win0_6.index t a * main_v2_1.ty.shape.size a) = fun _ => 0 := funext fun a => Nat.zero_mul _
  exact (Memref.read_access_unit_zero (Elt F) main_v2_1 hz' (fun a => by rw [congrFun hz' a]; simp) r).symm

/-- So the second result's array ends holding the second result. -/
theorem final6 (c : Dev nD) : (dats m 0 c).arrAt 6 cfg0.N = result1 m c :=
  (dats m 0 c).arrAt_eq_of_cover 6 (result1 m c) (fun t _ => flushed6 m c t) fun i =>
    ⟨pt, by decide +kernel, by
      show i ∈ ((View.whole main_v2_1).slice (win0_6.rect pt)).set
      rw [View.set_slice_whole, Rect.mem_set_unit]
      intro a
      have h : (i 0 : Nat) < 1 := (i 0).isLt
      match a with
      | ⟨0, _⟩ => show 0 * 1 ≤ (i 0 : Nat) ∧ (i 0 : Nat) < 0 * 1 + 1
                  omega⟩

end Cert.ReferenceIdeal.RefValue

end
-- ==== Proof.Products.lean ====
module

public import proofs.«01_k».proof.Proof.KernelBody
public import proofs.«01_k».proof.Proof.RefValue
public import Idealize.ShloMosaic.Lib.Pointwise.Contract
public import Idealize.ShloMosaic.PureOps.Ideal.Laws

@[expose] public section

noncomputable section

open scoped BigOperators

namespace Cert.Products

open Idealize.ShloMosaic

/-- One point's accumulation at an element: the old value plus the products over the block's 8192 tokens. -/
theorem kernel_apply (a : Vec Ideal KernelIdeal.S320x352 .f32) (X : Vec Ideal KernelIdeal.S1x320x8192 .fp8e4m3)
    (Y : Vec Ideal KernelIdeal.S1x352x8192 .fp8e5m2) (i : Fin 320) (o : Fin 352) :
    (KernelIdeal.Gen.k0_pay2 a X Y (ix2 i o) : EReal)
      = a (ix2 i o) + ∑ k : Fin 8192, (X (ix3 0 i k) : EReal) * Y (ix3 0 o k) := by
  unfold KernelIdeal.Gen.k0_pay2
  simp only [shapeCast_self]
  show (a (ix2 i o) : EReal) + Ideal.matmul KernelIdeal.dot_S320x8192_S352x8192_S320x352_1_1_0_0_n_n _ _ _ (ix2 i o) = _
  simp only [pointwise]
  rw [show (constant (F := Ideal) KernelIdeal.S320x352 .f32 0x00000000#32 (ix2 i o) : EReal) = 0 from Ideal.ofBits_zero_f32, zero_add]
  refine congrArg (a (ix2 i o) + ·) (Finset.sum_congr rfl fun k _ => congrArg₂ (· * ·) ?_ ?_)
  · exact (shapeCast_dropUnit_apply ![320, 8192] X KernelIdeal.Gen.shapeCasts_S1x320x8192_S320x8192 (ix2 i k)).trans
      (congrArg X (funext fun d => match d with | ⟨0, _⟩ => rfl | ⟨1, _⟩ => rfl | ⟨2, _⟩ => rfl))
  · exact (shapeCast_dropUnit_apply ![352, 8192] Y KernelIdeal.Gen.shapeCasts_S1x352x8192_S352x8192 (ix2 o k)).trans
      (congrArg Y (funext fun d => match d with | ⟨0, _⟩ => rfl | ⟨1, _⟩ => rfl | ⟨2, _⟩ => rfl))

/-- The zero block is zero at every element. -/
theorem zero_apply (j : KernelIdeal.S320x352.Idx) : (KernelIdeal.Gen.k0_pay1 (F := Ideal) j : EReal) = 0 := by
  unfold KernelIdeal.Gen.k0_pay1
  simp only [shapeCast_self]
  exact Ideal.ofBits_zero_f32

/-- The reference's scaled product at an element: the sum over both leading slices and all their tokens, times the
    product of the scales. -/
theorem reference_apply (x : Vec Ideal ReferenceIdeal.S2x524288x320 .fp8e4m3) (y : Vec Ideal ReferenceIdeal.S2x524288x352 .fp8e5m2)
    (s t : EReal) (i : Fin 320) (o : Fin 352) :
    (ReferenceIdeal.Gen.k0_pay1 (F := Ideal) x y s t (ix2 i o) : EReal)
      = (∑ b : Fin 2, ∑ T : Fin 524288, (x (ix3 b T i) : EReal) * y (ix3 b T o)) * (s * t) := by
  unfold ReferenceIdeal.Gen.k0_pay1
  show Ideal.matmul ReferenceIdeal.dot_S2x524288x320_S2x524288x352_S320x352_01_01_2_2_n_n x y _ (ix2 i o) * (s * t) = _
  simp only [pointwise]
  rw [show (constant (F := Ideal) ReferenceIdeal.S320x352 .f32 0x00000000#32 (ix2 i o) : EReal) = 0 from Ideal.ofBits_zero_f32, zero_add]

end Cert.Products

end
-- ==== Proof.Equation.lean ====
module

public import proofs.«01_k».proof.Proof.KernelInputs
public import proofs.«01_k».proof.Proof.Products

@[expose] public section

noncomputable section

open scoped BigOperators

namespace Cert.Equation

open Idealize.ShloMosaic Idealize.ShloMosaic.TcCoe Idealize.SL.Sem

/-- The blocks' tokens and the slices' tokens, one to one: token `k` of block `s` is token `8192 * (s % 64) + k` of
    slice `s / 64`. -/
def tokens : Fin 128 × Fin 8192 ≃ Fin 2 × Fin 524288 where
  toFun p := (⟨p.1.val / 64, by omega⟩, ⟨8192 * (p.1.val % 64) + p.2.val, by omega⟩)
  invFun q := (⟨64 * q.1.val + q.2.val / 8192, by omega⟩, ⟨q.2.val % 8192, by omega⟩)
  left_inv p := Prod.ext (Fin.ext (by dsimp only; omega)) (Fin.ext (by dsimp only; omega))
  right_inv q := Prod.ext (Fin.ext (by dsimp only; omega)) (Fin.ext (by dsimp only; omega))

/-- A sum over two slices of `64 * 8192` tokens is the sum over the 128 blocks of 8192 tokens, 64 of them in each
    slice. -/
theorem sum_blocks (f : Fin 2 → Fin 524288 → EReal) :
    ∑ s : Fin 128, ∑ k : Fin 8192, f ⟨s.val / 64, by omega⟩ ⟨8192 * (s.val % 64) + k.val, by omega⟩
      = ∑ b : Fin 2, ∑ T : Fin 524288, f b T := by
  have h := Equiv.sum_comp tokens fun q : Fin 2 × Fin 524288 => f q.1 q.2
  rw [Fintype.sum_prod_type, Fintype.sum_prod_type] at h
  exact h

section
variable (m : (ℓ : Loc KernelIdeal.nD KernelIdeal.τ KernelIdeal.sig) → Buf (Elt Ideal) ℓ)

/-- The activations a device holds. -/
abbrev xArg (c : Dev KernelIdeal.nD) : Vec Ideal KernelIdeal.S2x524288x320 .fp8e4m3 :=
  m ((c : Thread KernelIdeal.nD KernelIdeal.τ).loc KernelIdeal.main_arg0)

/-- The output gradients a device holds. -/
abbrev yArg (c : Dev KernelIdeal.nD) : Vec Ideal KernelIdeal.S2x524288x352 .fp8e5m2 :=
  m ((c : Thread KernelIdeal.nD KernelIdeal.τ).loc KernelIdeal.main_arg2)

/-- What token `T` of slice `b` adds at element `(i, o)`. -/
def prod (c : Dev KernelIdeal.nD) (i : Fin 320) (o : Fin 352) (b : Fin 2) (T : Fin 524288) : EReal :=
  (xArg m c (ix3 b T i) : EReal) * (yArg m c (ix3 b T o) : EReal)

/-- What point `s` adds at element `(i, o)`: the products over its 8192 tokens, read off the arguments. -/
def term (c : Dev KernelIdeal.nD) (i : Fin 320) (o : Fin 352) (s : Fin 128) : EReal :=
  ∑ k : Fin 8192, prod m c i o ⟨s.val / 64, by omega⟩ ⟨8192 * (s.val % 64) + k.val, by omega⟩

/-- One point's accumulation over the arguments. -/
theorem step_apply (c : Dev KernelIdeal.nD) (i : Fin 320) (o : Fin 352) (a : Vec Ideal KernelIdeal.S320x352 .f32)
    (n : ℕ) (h : n < KernelIdeal.cfg0.N) (h' : n < 128) :
    (KernelIdeal.Gen.k0_pay2 a (KernelIdeal.Gen.iblk m c 2 ⟨n, h⟩) (KernelIdeal.Gen.iblk m c 3 ⟨n, h⟩) (ix2 i o) : EReal)
      = a (ix2 i o) + term m c i o ⟨n, h'⟩ := by
  rw [Products.kernel_apply]
  unfold term prod
  refine congrArg (a (ix2 i o) + ·) (Finset.sum_congr rfl fun k _ => congrArg₂ (· * ·) ?_ ?_)
  · exact KernelIdeal.Inputs.iblk2_apply m c ⟨n, h⟩ i k _ _ rfl rfl
  · exact KernelIdeal.Inputs.iblk3_apply m c ⟨n, h⟩ o k _ _ rfl rfl

/-- The accumulator after point `n` at an element: the terms of the points up to `n`, by induction on the point. -/
theorem chain_apply (c : Dev KernelIdeal.nD) (i : Fin 320) (o : Fin 352) : ∀ (n : ℕ) (h : n < KernelIdeal.cfg0.N) (h' : n < 128),
    (KernelIdeal.Fold.chain m c n h (ix2 i o) : EReal)
      = ∑ s : Fin (n + 1), term m c i o ⟨s.val, by omega⟩
  | 0, h, h' => by
    unfold KernelIdeal.Fold.chain
    rw [step_apply m c i o _ 0 h h', Products.zero_apply, zero_add, Fin.sum_univ_one]
    rfl
  | n + 1, h, h' => by
    unfold KernelIdeal.Fold.chain
    rw [step_apply m c i o _ (n + 1) h h', chain_apply c i o n _ (by omega), Fin.sum_univ_castSucc (n := n + 1)]
    rfl

/-- The full accumulator at an element: the sum over both slices and all their tokens. -/
theorem total_apply (c : Dev KernelIdeal.nD) (i : Fin 320) (o : Fin 352) :
    (KernelIdeal.Fold.total m c (ix2 i o) : EReal) = ∑ b : Fin 2, ∑ T : Fin 524288, prod m c i o b T :=
  (chain_apply m c i o 127 _ (by omega)).trans (sum_blocks (prod m c i o))

/-- The scaled product: the kernel's full accumulator times the two scales is the reference's, at equal arguments. -/
theorem scaled_eq (c : Dev KernelIdeal.nD) (s t : EReal) :
    (KernelIdeal.Gen.k0_pay3 (F := Ideal) (KernelIdeal.Fold.total m c) s t : Vec Ideal KernelIdeal.S320x352 .f32)
      = ReferenceIdeal.Gen.k0_pay1 (F := Ideal) (xArg m c) (yArg m c) s t := by
  refine funext fun (j : (⟨2, ![320, 352]⟩ : Shape).Idx) => ?_
  obtain ⟨i, o, rfl⟩ : ∃ (i : Fin 320) (o : Fin 352), j = ix2 i o := ⟨j 0, j 1, eq_ix2 j⟩
  refine Eq.trans ?_ (Products.reference_apply (xArg m c) (yArg m c) s t i o).symm
  exact congrArg (fun z : EReal => z * (s * t)) (total_apply m c i o)

end

end Cert.Equation

end
-- ==== Proof.Results.lean ====
module

public import proofs.«01_k».proof.Proof.Equation

@[expose] public section

noncomputable section

namespace Cert.Results

open Idealize.ShloMosaic Idealize.ShloMosaic.TcCoe Idealize.SL.Sem

section
variable (m : (ℓ : Loc KernelIdeal.nD KernelIdeal.τ KernelIdeal.sig) → Buf (Elt Ideal) ℓ)
variable (m' : (ℓ : Loc ReferenceIdeal.nD ReferenceIdeal.τ ReferenceIdeal.sig) → Buf (Elt Ideal) ℓ)

/-- The activations' scale, read off the arguments. -/
abbrev sArg (c : Dev KernelIdeal.nD) : EReal :=
  shapeCast KernelIdeal.S1 (m ((c : Thread KernelIdeal.nD KernelIdeal.τ).loc KernelIdeal.main_arg1))
    KernelIdeal.Gen.shapeCasts_S_S1 KernelIdeal.Body.at0

/-- The output gradients' scale, read off the arguments. -/
abbrev tArg (c : Dev KernelIdeal.nD) : EReal :=
  shapeCast KernelIdeal.S1 (m ((c : Thread KernelIdeal.nD KernelIdeal.τ).loc KernelIdeal.main_arg3))
    KernelIdeal.Gen.shapeCasts_S_S1 KernelIdeal.Body.at0

/-- The kernel's first result over its arguments. -/
theorem kernel0 (c : Dev KernelIdeal.nD) :
    KernelIdeal.Fold.result0 m c
      = KernelIdeal.Gen.k0_pay4 (F := Ideal) (KernelIdeal.Fold.total m c) (sArg m c) (tArg m c)
          (m ((c : Thread KernelIdeal.nD KernelIdeal.τ).loc KernelIdeal.main_arg4)) := by
  unfold KernelIdeal.Fold.result0
  rw [KernelIdeal.Inputs.iblk0, KernelIdeal.Inputs.iblk1, KernelIdeal.Inputs.iblk4,
    KernelIdeal.Inputs.V_v2, KernelIdeal.Inputs.V_v3, KernelIdeal.Gen.V_main_arg4]

/-- The kernel's second result over its arguments. -/
theorem kernel1 (c : Dev KernelIdeal.nD) :
    KernelIdeal.Fold.result1 m c
      = fun _ => KernelIdeal.Gen.k0_pay5 (F := Ideal) (KernelIdeal.Fold.total m c) (sArg m c) (tArg m c) := by
  unfold KernelIdeal.Fold.result1
  rw [KernelIdeal.Inputs.iblk0, KernelIdeal.Inputs.iblk1, KernelIdeal.Inputs.V_v2, KernelIdeal.Inputs.V_v3]

/-- The updated gradient: at equal arguments the kernel's and the reference's first results are equal. -/
theorem result0_eq (c : Dev KernelIdeal.nD)
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3))
    (h4 : m' ((c : Thread ReferenceIdeal.nD ReferenceIdeal.τ).loc ReferenceIdeal.main_arg4) = m ((c : Thread KernelIdeal.nD KernelIdeal.τ).loc KernelIdeal.main_arg4)) :
    ReferenceIdeal.RefValue.result0 m' c = KernelIdeal.Fold.result0 m c := by
  rw [kernel0]
  unfold ReferenceIdeal.RefValue.result0
  rw [h0, h1, h2, h3, h4]
  exact congrArg (fun d : FVec Ideal KernelIdeal.S320x352 .f32 =>
    addf (m ((c : Thread KernelIdeal.nD KernelIdeal.τ).loc KernelIdeal.main_arg4) : FVec Ideal KernelIdeal.S320x352 .f32) d)
    (Equation.scaled_eq m c (sArg m c) (tArg m c)).symm

/-- The largest magnitude: at equal arguments the kernel's and the reference's second results are equal. -/
theorem result1_eq (c : Dev KernelIdeal.nD)
    (h0 : m' ((c : Thread ReferenceIdeal.nD ReferenceIdeal.τ).loc ReferenceIdeal.main_arg0) = m ((c : Thread KernelIdeal.nD KernelIdeal.τ).loc KernelIdeal.main_arg0))
    (h1 : m' ((c : Thread ReferenceIdeal.nD ReferenceIdeal.τ).loc ReferenceIdeal.main_arg1) = m ((c : Thread KernelIdeal.nD KernelIdeal.τ).loc KernelIdeal.main_arg1))
    (h2 : m' ((c : Thread ReferenceIdeal.nD ReferenceIdeal.τ).loc ReferenceIdeal.main_arg2) = m ((c : Thread KernelIdeal.nD KernelIdeal.τ).loc KernelIdeal.main_arg2))
    (h3 : m' ((c : Thread ReferenceIdeal.nD ReferenceIdeal.τ).loc ReferenceIdeal.main_arg3) = m ((c : Thread KernelIdeal.nD KernelIdeal.τ).loc KernelIdeal.main_arg3)) :
    ReferenceIdeal.RefValue.result1 m' c = KernelIdeal.Fold.result1 m c := by
  rw [kernel1]
  unfold ReferenceIdeal.RefValue.result1
  rw [h0, h1, h2, h3]
  unfold ReferenceIdeal.Gen.k0_pay2 KernelIdeal.Gen.k0_pay5
  rw [Equation.scaled_eq m c (sArg m c) (tArg m c)]
  rfl

end

end Cert.Results

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Results
public import Idealize.ShloMosaic.Adequacy
public import Idealize.ShloMosaic.Init

@[expose] public section

noncomputable section

namespace Cert.Proof

open Idealize.ShloMosaic Idealize.ShloMosaic.TcCoe Idealize.SL.Sem

/-- The blocked kernel and the reference, from equal arguments, end with both results equal as extended reals and
    their arguments unchanged. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => Cert.KernelIdeal.Fold.result0 m c, fun c => Cert.KernelIdeal.Fold.result1 m c,
    (θ_run _ _ _).mono (fun r h c => ?_) (Cert.KernelIdeal.Value.run_blocks m g),
    (θ_run _ _ _).mono (fun r h c => ?_) (Cert.ReferenceIdeal.Value.run_blocks m' g')⟩
  · obtain ⟨h5, h6, hkept⟩ := h c
    exact ⟨h5.trans (Cert.KernelIdeal.Fold.final5 m c), h6.trans (Cert.KernelIdeal.Fold.final6 m c), hkept⟩
  · obtain ⟨h5, h6, hkept⟩ := h c
    obtain ⟨e0, e1, e2, e3, e4⟩ := hargs c
    exact ⟨(h5.trans (Cert.ReferenceIdeal.RefValue.final5 m' c)).trans (Cert.Results.result0_eq m m' c e0 e1 e2 e3 e4),
      (h6.trans (Cert.ReferenceIdeal.RefValue.final6 m' c)).trans (Cert.Results.result1_eq m m' c e0 e1 e2 e3), hkept⟩

/-- Every claim: the three frames, the idealization, and the equation of kernel and reference. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
